-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x512 : Shape := ⟨2, ![131072, 512]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S128x256 : Shape := ⟨2, ![128, 256]⟩
abbrev S256x256 : Shape := ⟨2, ![256, 256]⟩
abbrev S256x512 : Shape := ⟨2, ![256, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S1x512x512, .f32⟩
  | .hbm, ⟨2, _⟩ => ⟨S512x512, .f32⟩
  | .hbm, ⟨3, _⟩ => ⟨S131072x512, .f32⟩
  | .local _ .vmem, ⟨0, _⟩ => ⟨S1x512x512, .f32⟩
  | .local _ .vmem, ⟨1, _⟩ => ⟨S512x512, .f32⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S4096x512, .f32⟩
  | .local _ .vmem, ⟨6, _⟩ => ⟨S4096x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S131072x512 : Shape := ⟨2, ![131072, 512]⟩
abbrev S1x512x512 : Shape := ⟨3, ![1, 512, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1x512x512, .f32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S_, .i32⟩
  | .hbm, ⟨21, _⟩ => ⟨S512x512, .f32⟩
  | .hbm, ⟨22, _⟩ => ⟨S_, .i32⟩
  | .hbm, ⟨23, _⟩ => ⟨S512x512, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S1x512, .f32⟩
  | .hbm, ⟨28, _⟩ => ⟨S512, .f32⟩
  | .hbm, ⟨29, _⟩ => ⟨S512, .f32⟩
  | .hbm, ⟨30, _⟩ => ⟨S512x1, .f32⟩
  | .hbm, ⟨31, _⟩ => ⟨S1x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S_, .i32⟩
  | .hbm, ⟨40, _⟩ => ⟨S_, .i32⟩
  | .hbm, ⟨41, _⟩ => ⟨S512x512, .f32⟩
  | .hbm, ⟨42, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_while0c_c_3 : Ref sig .tc := ⟨.hbm, 24, rfl⟩
abbrev main_while0c_v15 : Ref sig .tc := ⟨.hbm, 25, rfl⟩
abbrev main_while0b_call1_c : Ref sig .tc := ⟨.hbm, 26, rfl⟩
abbrev main_while0b_call1_v0 : Ref sig .tc := ⟨.hbm, 27, rfl⟩
abbrev main_while0b_v15 : Ref sig .tc := ⟨.hbm, 28, rfl⟩
abbrev main_while0b_v16 : Ref sig .tc := ⟨.hbm, 29, rfl⟩
abbrev main_while0b_v17 : Ref sig .tc := ⟨.hbm, 30, rfl⟩
abbrev main_while0b_v18 : Ref sig .tc := ⟨.hbm, 31, rfl⟩
abbrev main_while0b_v19 : Ref sig .tc := ⟨.hbm, 32, rfl⟩
abbrev main_while0b_v20 : Ref sig .tc := ⟨.hbm, 33, rfl⟩
abbrev main_while0b_v21 : Ref sig .tc := ⟨.hbm, 34, rfl⟩
abbrev main_while0b_cst_3 : Ref sig .tc := ⟨.hbm, 35, rfl⟩
abbrev main_while0b_v22 : Ref sig .tc := ⟨.hbm, 36, rfl⟩
abbrev main_while0b_v23 : Ref sig .tc := ⟨.hbm, 37, rfl⟩
abbrev main_while0b_v24 : Ref sig .tc := ⟨.hbm, 38, rfl⟩
abbrev main_while0b_c_4 : Ref sig .tc := ⟨.hbm, 39, rfl⟩
abbrev main_while0b_v25 : Ref sig .tc := ⟨.hbm, 40, rfl⟩
abbrev main_v13 : Ref sig .tc := ⟨.hbm, 41, rfl⟩
abbrev main_v14 : Ref sig .tc := ⟨.hbm, 42, rfl⟩

abbrev nD : Nat := 1
abbrev τ : Topo := Topo.v7x

variable {F : FTy → Type} [FloatOps F]

abbrev main_while0_count : Scf.Loop 32 := ⟨0#32, 512#32, 1#32⟩
-- ==== Proof.Body.lean ====
module

public import proofs.«01_k».proof.Proof.Gen.KernelIdeal.Frame

@[expose] public section

noncomputable section

namespace Cert.KernelIdeal.Val

open Idealize.ShloMosaic Idealize.SL.Sem
open Cert.KernelIdeal.Gen

variable {F : FTy → Type} [FloatOps F]

/-! # What the first kernel computes, as a composition of a few functions

The printed body is one long straight line. Here it is a composition of the split into a high and a
low half, the three-term product, the block mask, the doubling step and the two-block merge. -/

/-- The high half of a split array. -/
def hi {s : Shape} (x : FVec F s .f32) : FVec F s .bf16 := truncf .bf16 x bitsLt_bf16_f32

/-- The low half: what the high half leaves over. -/
def lo {s : Shape} (x : FVec F s .f32) : FVec F s .bf16 :=
  truncf .bf16 (subf x (extf .f32 (hi x) bitsLt_bf16_f32)) bitsLt_bf16_f32

/-- The three-term product of two split arrays. -/
def prod {a b c : Shape} (d : DotDims a b c) (ah al : FVec F a .bf16) (bh bl : FVec F b .bf16) : FVec F c .f32 :=
  addf (addf (matmul d none ah bh (constant c .f32 0x00000000#32)) (matmul d none ah bl (constant c .f32 0x00000000#32)))
    (matmul d none al bh (constant c .f32 0x00000000#32))

/-- The product of two arrays, both split. -/
def mul {a b c : Shape} (d : DotDims a b c) (x : FVec F a .f32) (y : FVec F b .f32) : FVec F c .f32 :=
  prod d (hi x) (lo x) (hi y) (lo y)

/-- The row number at each place of a chunk. -/
def row : IVec S128x128 32 := iota .tc S128x128 32 [0] iota_S128x128_d0_w32

/-- The column number at each place of a chunk. -/
def col : IVec S128x128 32 := iota .tc S128x128 32 [1] iota_S128x128_d1_w32

/-- Division rounding down, as printed. -/
def fdiv (v : IVec S128x128 32) (k : BitVec 32) : IVec S128x128 32 :=
  select
    (andi
      (cmpi .ne
        (subi (extui 32 (cmpi .sgt v (broadcast S128x128 0#32)) natLt_1_32)
          (extui 32 (cmpi .slt v (broadcast S128x128 0#32)) natLt_1_32))
        (broadcast S128x128 (Scalar.subi (Scalar.extui (Scalar.cmpi .sgt k 0#32)) (Scalar.extui (Scalar.cmpi .slt k 0#32)))))
      (cmpi .ne (remsi v (broadcast S128x128 k)) (broadcast S128x128 0#32)))
    (subi (divsi v (broadcast S128x128 k)) (broadcast S128x128 1#32))
    (divsi v (broadcast S128x128 k))

/-- The divisor a printed remainder takes. -/
def divisor (k : BitVec 32) : BitVec 32 := Scalar.select (Scalar.cmpi .eq k 0#32) 1#32 k

/-- The remainder with the divisor's sign, as printed. -/
def fmod (v : IVec S128x128 32) (k : BitVec 32) : IVec S128x128 32 :=
  select
    (andi
      (xori (cmpi .slt (remsi v (broadcast S128x128 (divisor k))) (broadcast S128x128 0#32))
        (broadcastTo S128x128 (broadcast S128x128 (Scalar.cmpi .slt (divisor k) 0#32)) broadcasts_S128x128_S128x128))
      (cmpi .ne (remsi v (broadcast S128x128 (divisor k))) (broadcast S128x128 0#32)))
    (addi (remsi v (broadcast S128x128 (divisor k))) (broadcast S128x128 (divisor k)))
    (remsi v (broadcast S128x128 (divisor k)))

/-- The mask of the upper right quarters of the diagonal blocks of `k` rows, `h` half of `k`. -/
def mask (k h : BitVec 32) : IVec S128x128 1 :=
  andi (andi (cmpi .eq (fdiv row k) (fdiv col k)) (cmpi .slt (fmod row k) (broadcast S128x128 h)))
    (cmpi .sge (fmod col k) (broadcast S128x128 h))

/-- The chunk's triangle for blocks of two rows. -/
def init (g : FVec F S128x128 .f32) : FVec F S128x128 .f32 :=
  addf
    (select (cmpi .eq row col) (broadcast S128x128 (Scalar.ofBits .f32 0x40000000#32))
      (broadcast S128x128 (Scalar.ofBits .f32 0x00000000#32)))
    (select
      (andi (cmpi .eq (fmod row 2#32) (broadcast S128x128 0#32)) (cmpi .eq col (addi row (broadcast S128x128 1#32))))
      (mulf (broadcast S128x128 (Scalar.ofBits .f32 0xC0800000#32)) g)
      (broadcast S128x128 (Scalar.ofBits .f32 0x00000000#32)))

/-- One doubling step. -/
def step (k h : BitVec 32) (g t : FVec F S128x128 .f32) : FVec F S128x128 .f32 :=
  subf t
    (select (mask k h)
      (mul dot_S128x128_S128x128_S128x128_1_0_0_1_n_n (mul dot_S128x128_S128x128_S128x128_1_0_0_1_n_n t g) t)
      (broadcast S128x128 (Scalar.ofBits .f32 0x00000000#32)))

/-- The chunk's triangle, from its Gram block. -/
def chunk (g : FVec F S128x128 .f32) : FVec F S128x128 .f32 :=
  step 128#32 64#32 g (step 64#32 32#32 g (step 32#32 16#32 g (step 16#32 8#32 g (step 8#32 4#32 g (step 4#32 2#32 g (init g))))))

/-- Two triangles of 128 rows merged, `g` the Gram block between them. -/
def merge128 (g t1 t2 : FVec F S128x128 .f32) : FVec F S256x256 .f32 :=
  concatenate S256x256 0
    [⟨S128x256, concatenate S128x256 1
      [⟨S128x128, t1⟩, ⟨S128x128, subf (broadcast S128x128 (Scalar.ofBits .f32 0x00000000#32))
        (mul dot_S128x128_S128x128_S128x128_1_0_0_1_n_n (mul dot_S128x128_S128x128_S128x128_1_0_0_1_n_n t1 g) t2)⟩]
      concatenates_S128x128_S128x128_S128x256_d1⟩,
     ⟨S128x256, concatenate S128x256 1
      [⟨S128x128, broadcast S128x128 (Scalar.ofBits .f32 0x00000000#32)⟩, ⟨S128x128, t2⟩]
      concatenates_S128x128_S128x128_S128x256_d1⟩]
    concatenates_S128x256_S128x256_S256x256_d0

/-- Two triangles of 256 rows merged. -/
def merge256 (g t1 t2 : FVec F S256x256 .f32) : FVec F S512x512 .f32 :=
  concatenate S512x512 0
    [⟨S256x512, concatenate S256x512 1
      [⟨S256x256, t1⟩, ⟨S256x256, subf (broadcast S256x256 (Scalar.ofBits .f32 0x00000000#32))
        (mul dot_S256x256_S256x256_S256x256_1_0_0_1_n_n (mul dot_S256x256_S256x256_S256x256_1_0_0_1_n_n t1 g) t2)⟩]
      concatenates_S256x256_S256x256_S256x512_d1⟩,
     ⟨S256x512, concatenate S256x512 1
      [⟨S256x256, broadcast S256x256 (Scalar.ofBits .f32 0x00000000#32)⟩, ⟨S256x256, t2⟩]
      concatenates_S256x256_S256x256_S256x512_d1⟩]
    concatenates_S256x512_S256x512_S512x512_d0

/-- The normalised rows. -/
def rows (v : Vec F S1x512x512 .f32) : FVec F S512x512 .f32 :=
  divf (shapeCast S512x512 v shapeCasts_S1x512x512_S512x512)
    (broadcastTo S512x512
      (addf
        (sqrt (shapeCast S512x1
          (multiReduction .add [1] S512
            (mulf (shapeCast S512x512 v shapeCasts_S1x512x512_S512x512) (shapeCast S512x512 v shapeCasts_S1x512x512_S512x512))
            0x00000000#32 reduces_S512x512_S512 (.inl rfl) rfl)
          shapeCasts_S512_S512x1))
        (broadcast S512x1 (Scalar.ofBits .f32 0x358637BD#32)))
      broadcasts_S512x1_S512x512)

/-- The Gram matrix of the rows. -/
def gram (w : FVec F S512x512 .f32) : FVec F S512x512 .f32 := mul dot_S512x512_S512x512_S512x512_1_1_0_0_n_n w w

/-- The first pair of chunks' triangle. -/
def left (g : FVec F S512x512 .f32) : FVec F S256x256 .f32 :=
  merge128 (extractStridedSlice S128x128 ![0, 128] g slices_S512x512_o0_128_S128x128)
    (chunk (extractStridedSlice S128x128 ![0, 0] g slices_S512x512_o0_0_S128x128))
    (chunk (extractStridedSlice S128x128 ![128, 128] g slices_S512x512_o128_128_S128x128))

/-- The second pair of chunks' triangle. -/
def right (g : FVec F S512x512 .f32) : FVec F S256x256 .f32 :=
  merge128 (extractStridedSlice S128x128 ![256, 384] g slices_S512x512_o256_384_S128x128)
    (chunk (extractStridedSlice S128x128 ![256, 256] g slices_S512x512_o256_256_S128x128))
    (chunk (extractStridedSlice S128x128 ![384, 384] g slices_S512x512_o384_384_S128x128))

/-- The whole triangle. -/
def triangle (g : FVec F S512x512 .f32) : FVec F S512x512 .f32 :=
  merge256 (extractStridedSlice S256x256 ![0, 256] g slices_S512x512_o0_256_S256x256) (left g) (right g)

/-- The identity less the triangle between the rows. -/
def close (t w : FVec F S512x512 .f32) : FVec F S512x512 .f32 :=
  subf
    (select (cmpi .eq (iota .tc S512x512 32 [0] iota_S512x512_d0_w32) (iota .tc S512x512 32 [1] iota_S512x512_d1_w32))
      (broadcast S512x512 (Scalar.ofBits .f32 0x3F800000#32)) (broadcast S512x512 (Scalar.ofBits .f32 0x00000000#32)))
    (mul dot_S512x512_S512x512_S512x512_0_0_1_1_n_n (mul dot_S512x512_S512x512_S512x512_1_0_0_1_n_n t w) w)

/-- The matrix the first kernel writes. -/
def build (v : Vec F S1x512x512 .f32) : FVec F S512x512 .f32 :=
  close (triangle (gram (rows v))) (rows v)

set_option maxRecDepth 65536

/-- The normalised rows as printed. -/
theorem pay1_eq (v : Vec F S1x512x512 .f32) : k0_pay1 v = rows v := rfl

/-- The Gram matrix as printed. -/
theorem pay4_eq (v : Vec F S1x512x512 .f32) : k0_pay4 v = gram (rows v) := rfl

/-- What the first kernel's output window holds. -/
theorem out0_eq (x : Vec F S1x512x512 .f32) :
    out0_1 x = View.canon [⟨r0_1, build (View.ld x r0_0)⟩] := rfl

end Cert.KernelIdeal.Val
-- ==== Proof.Householder.lean ====
module

public import Mathlib.Data.Matrix.Mul
public import Mathlib.Data.Real.Basic
public import Mathlib.Algebra.BigOperators.Intervals
public import Mathlib.Algebra.Module.BigOperators
public import Mathlib.Tactic.Ring
public import Mathlib.Tactic.Abel
public import Mathlib.Tactic.Module

@[expose] public section

noncomputable section

namespace Cert.Householder

open Matrix Finset

variable {κ : Type} [Fintype κ] [DecidableEq κ]

/-! # Products of reflections in compact form

`Q w n` is the product of the first `n` reflections of the family `w`. `R w n T` says that `T` is a
compact form of it: `Q w n = 1 - ∑ T i j • w i (w j)ᵀ`. Two compact forms of neighbouring stretches merge
into one. -/

/-- The reflection of a row. -/
def H (v : κ → ℝ) : Matrix κ κ ℝ := 1 - (2 : ℝ) • vecMulVec v v

/-- The product of the first `n` reflections, in order. -/
def Q (w : ℕ → κ → ℝ) : ℕ → Matrix κ κ ℝ
  | 0 => 1
  | n + 1 => Q w n * H (w n)

/-- A triangle of coefficients between the first `n` rows. -/
def S (w : ℕ → κ → ℝ) (n : ℕ) (T : ℕ → ℕ → ℝ) : Matrix κ κ ℝ :=
  ∑ i ∈ range n, ∑ j ∈ range n, T i j • vecMulVec (w i) (w j)

/-- `T` is a compact form of the product of the first `n` reflections. -/
def R (w : ℕ → κ → ℝ) (n : ℕ) (T : ℕ → ℕ → ℝ) : Prop := Q w n = 1 - S w n T

/-- A product over a stretch followed by another. -/
theorem Q_add (w : ℕ → κ → ℝ) (n m : ℕ) : Q w (n + m) = Q w n * Q (fun i => w (n + i)) m := by
  induction m with
  | zero => simp [Q]
  | succ m ih => rw [← Nat.add_assoc, Q, ih, Q, Matrix.mul_assoc]

/-- Only the coefficients of the stretch matter. -/
theorem S_congr {w : ℕ → κ → ℝ} {n : ℕ} {T T' : ℕ → ℕ → ℝ} (h : ∀ i < n, ∀ j < n, T i j = T' i j) :
    S w n T = S w n T' :=
  sum_congr rfl fun i hi => sum_congr rfl fun j hj => by rw [h i (mem_range.mp hi) j (mem_range.mp hj)]

/-- A compact form with other coefficients outside the stretch. -/
theorem R_congr {w : ℕ → κ → ℝ} {n : ℕ} {T T' : ℕ → ℕ → ℝ} (hR : R w n T) (h : ∀ i < n, ∀ j < n, T' i j = T i j) :
    R w n T' := by
  unfold R at *
  rw [hR, S_congr h]

/-- The product of two triangles is the triangle through the Gram matrix. -/
theorem S_mul_S (w : ℕ → κ → ℝ) (n m : ℕ) (T₁ T₂ : ℕ → ℕ → ℝ) :
    S w n T₁ * S (fun i => w (n + i)) m T₂ =
      ∑ i ∈ range n, ∑ j ∈ range m,
        (∑ q ∈ range m, (∑ p ∈ range n, T₁ i p * (w p ⬝ᵥ w (n + q))) * T₂ q j) • vecMulVec (w i) (w (n + j)) := by
  unfold S
  rw [sum_mul]
  refine sum_congr rfl fun i _ => ?_
  simp only [sum_mul, mul_sum, sum_smul]
  have e : ∀ p q j, (T₁ i p • vecMulVec (w i) (w p)) * (T₂ q j • vecMulVec (w (n + q)) (w (n + j))) =
      (T₁ i p * (w p ⬝ᵥ w (n + q)) * T₂ q j) • vecMulVec (w i) (w (n + j)) := fun p q j => by
    rw [smul_mul_smul_comm, vecMulVec_mul_vecMulVec, vecMulVec_smul, smul_smul]
    congr 1
    ring
  simp only [e]
  exact sum_comm

/-- Two compact forms of neighbouring stretches merge. -/
theorem merge {w : ℕ → κ → ℝ} {n m : ℕ} {T₁ T₂ T : ℕ → ℕ → ℝ} (h₁ : R w n T₁) (h₂ : R (fun i => w (n + i)) m T₂)
    (h11 : ∀ i < n, ∀ j < n, T i j = T₁ i j)
    (h12 : ∀ i < n, ∀ j < m, T i (n + j) =
      -∑ q ∈ range m, (∑ p ∈ range n, T₁ i p * (w p ⬝ᵥ w (n + q))) * T₂ q j)
    (h21 : ∀ i < m, ∀ j < n, T (n + i) j = 0)
    (h22 : ∀ i < m, ∀ j < m, T (n + i) (n + j) = T₂ i j) : R w (n + m) T := by
  unfold R at *
  have hS : S w (n + m) T = S w n T₁ + S (fun i => w (n + i)) m T₂ - S w n T₁ * S (fun i => w (n + i)) m T₂ := by
    rw [S_mul_S, ← S_congr (w := w) h11, ← S_congr (w := fun i => w (n + i)) h22]
    unfold S
    rw [sum_range_add]
    simp only [sum_range_add, sum_add_distrib]
    have e12 : ∑ i ∈ range n, ∑ j ∈ range m, T i (n + j) • vecMulVec (w i) (w (n + j)) =
        -∑ i ∈ range n, ∑ j ∈ range m,
          (∑ q ∈ range m, (∑ p ∈ range n, T₁ i p * (w p ⬝ᵥ w (n + q))) * T₂ q j) • vecMulVec (w i) (w (n + j)) := by
      rw [← sum_neg_distrib]
      refine sum_congr rfl fun i hi => ?_
      rw [← sum_neg_distrib]
      refine sum_congr rfl fun j hj => ?_
      rw [h12 i (mem_range.mp hi) j (mem_range.mp hj), neg_smul]
    have e21 : ∑ i ∈ range m, ∑ j ∈ range n, T (n + i) j • vecMulVec (w (n + i)) (w j) = 0 :=
      sum_eq_zero fun i hi => sum_eq_zero fun j hj => by
        rw [h21 i (mem_range.mp hi) j (mem_range.mp hj), zero_smul]
    rw [e12, e21]
    abel
  rw [Q_add, h₁, h₂, hS, sub_mul, mul_sub, mul_sub]
  simp only [one_mul, mul_one]
  abel

/-- One reflection's compact form is the number two. -/
theorem R_one (w : ℕ → κ → ℝ) {T : ℕ → ℕ → ℝ} (h : T 0 0 = 2) : R w 1 T := by
  simp [R, Q, S, H, h]

/-! ## Doubling inside a chunk -/

/-- The upper right quarter of a diagonal block of `2 * m` rows. -/
def Quarter (m i j : ℕ) : Prop := i / (2 * m) = j / (2 * m) ∧ i % (2 * m) < m ∧ m ≤ j % (2 * m)

instance (m i j : ℕ) : Decidable (Quarter m i j) := inferInstanceAs (Decidable (_ ∧ _ ∧ _))

/-- One doubling step over a chunk of `N` rows. -/
def double (N m : ℕ) (G T : ℕ → ℕ → ℝ) (i j : ℕ) : ℝ :=
  T i j - if Quarter m i j then ∑ q ∈ range N, (∑ p ∈ range N, T i p * G p q) * T q j else 0

/-- The triangle for blocks of two rows. -/
def start (G : ℕ → ℕ → ℝ) (i j : ℕ) : ℝ :=
  (if i = j then 2 else 0) + if i % 2 = 0 ∧ j = i + 1 then -4 * G i j else 0

/-- `T` is a compact form of every diagonal block of `m` rows, and zero off the blocks. -/
structure Blocks (w : ℕ → κ → ℝ) (N m : ℕ) (T : ℕ → ℕ → ℝ) : Prop where
  off : ∀ i < N, ∀ j < N, i / m ≠ j / m → T i j = 0
  rep : ∀ b, b * m + m ≤ N → R (fun i => w (b * m + i)) m (fun i j => T (b * m + i) (b * m + j))

/-- A sum over a chunk of a summand that lives on one block. -/
theorem sum_block {N s m : ℕ} (h : s + m ≤ N) (f : ℕ → ℝ) (hf : ∀ q < N, ¬(s ≤ q ∧ q < s + m) → f q = 0) :
    ∑ q ∈ range N, f q = ∑ q ∈ range m, f (s + q) := by
  rw [← sum_subset (s₁ := Ico s (s + m)) (s₂ := range N)]
  · rw [sum_Ico_eq_sum_range]; simp
  · intro q hq; rw [mem_Ico] at hq; rw [mem_range]; omega
  · intro q hq hn; rw [mem_range] at hq; rw [mem_Ico] at hn; exact hf q hq hn

/-- Which block a place lies in. -/
theorem div_block {b m i : ℕ} (hi : i < m) : (b * m + i) / m = b := by
  rw [Nat.mul_comm, Nat.mul_add_div (by omega), Nat.div_eq_of_lt hi, Nat.add_zero]

/-- A place whose block is known. -/
theorem of_div_block {b m q : ℕ} (hm : 0 < m) (h : q / m = b) : b * m ≤ q ∧ q < b * m + m := by
  subst h
  have h1 := Nat.div_add_mod q m
  have h2 := Nat.mod_lt q hm
  rw [Nat.mul_comm] at h1
  omega

/-- The starting triangle has blocks of two rows. -/
theorem start_blocks (w : ℕ → κ → ℝ) (N : ℕ) (G : ℕ → ℕ → ℝ) (hG : ∀ i < N, ∀ j < N, G i j = w i ⬝ᵥ w j) :
    Blocks w N 2 (start G) where
  off i _ j _ h := by
    have h1 : i ≠ j := by rintro rfl; exact h rfl
    have h2 : ¬(i % 2 = 0 ∧ j = i + 1) := by omega
    simp [start, h1, h2]
  rep b hb := by
    refine merge (n := 1) (m := 1) (T₁ := fun _ _ => 2) (T₂ := fun _ _ => 2) (R_one _ rfl) (R_one _ rfl) ?_ ?_ ?_ ?_
    · intro i hi j hj
      obtain rfl : i = 0 := by omega
      obtain rfl : j = 0 := by omega
      simp [start]
    · intro i hi j hj
      obtain rfl : i = 0 := by omega
      obtain rfl : j = 0 := by omega
      simp [start, hG (b * 2) (by omega) (b * 2 + 1) (by omega)]
      ring
    · intro i hi j hj
      obtain rfl : i = 0 := by omega
      obtain rfl : j = 0 := by omega
      simp [start]
    · intro i hi j hj
      obtain rfl : i = 0 := by omega
      obtain rfl : j = 0 := by omega
      simp [start]

/-- A doubling step turns blocks of `m` rows into blocks of `2 * m`. -/
theorem double_blocks {w : ℕ → κ → ℝ} {N m : ℕ} {G T : ℕ → ℕ → ℝ} (hm : 0 < m)
    (hG : ∀ i < N, ∀ j < N, G i j = w i ⬝ᵥ w j) (h : Blocks w N m T) : Blocks w N (2 * m) (double N m G T) where
  off i hi j hj hij := by
    have h1 : i / m ≠ j / m := by
      intro h'
      exact hij (by rw [Nat.mul_comm, ← Nat.div_div_eq_div_mul, ← Nat.div_div_eq_div_mul, h'])
    have h2 : ¬Quarter m i j := fun h' => hij h'.1
    simp [double, h.off i hi j hj h1, h2]
  rep b hb := by
    have e : b * (2 * m) = 2 * b * m := by ring
    have e' : b * (2 * m) + m = (2 * b + 1) * m := by ring
    have hb1 := h.rep (2 * b) (by rw [← e]; omega)
    have hb2 := h.rep (2 * b + 1) (by rw [← e']; omega)
    rw [← e] at hb1
    rw [← e'] at hb2
    have dv : ∀ k < 2 * m, (b * (2 * m) + k) / (2 * m) = b := fun k hk => div_block hk
    have md : ∀ k < 2 * m, (b * (2 * m) + k) % (2 * m) = k := fun k hk => by
      rw [Nat.mul_comm, Nat.mul_add_mod, Nat.mod_eq_of_lt hk]
    have bl1 : ∀ k < m, (b * (2 * m) + k) / m = 2 * b := fun k hk => by rw [e]; exact div_block hk
    have bl2 : ∀ k < m, (b * (2 * m) + (m + k)) / m = 2 * b + 1 := fun k hk => by
      rw [← Nat.add_assoc, e']; exact div_block hk
    rw [Nat.two_mul m]
    rw [Nat.two_mul m] at *
    refine merge hb1 (T₂ := fun i j => T (b * (m + m) + m + i) (b * (m + m) + m + j)) ?_ ?_ ?_ ?_ ?_
    · have := hb2
      simpa [Nat.add_assoc] using this
    · intro i hi j hj
      have : ¬Quarter m (b * (m + m) + i) (b * (m + m) + j) := by
        rintro ⟨-, -, h3⟩
        rw [Nat.two_mul, md j (by omega)] at h3
        omega
      simp [double, this]
    · intro i hi j hj
      have hq : Quarter m (b * (m + m) + i) (b * (m + m) + (m + j)) := by
        refine ⟨?_, ?_, ?_⟩
        · rw [Nat.two_mul, dv i (by omega), dv (m + j) (by omega)]
        · rw [Nat.two_mul, md i (by omega)]; exact hi
        · rw [Nat.two_mul, md (m + j) (by omega)]; omega
      have hz : T (b * (m + m) + i) (b * (m + m) + (m + j)) = 0 :=
        h.off _ (by omega) _ (by omega) (by rw [bl1 i hi, bl2 j hj]; omega)
      rw [double, if_pos hq, hz, zero_sub]
      congr 1
      rw [sum_block (s := b * (m + m) + m) (m := m) (by omega)]
      · refine sum_congr rfl fun q hq => ?_
        rw [mem_range] at hq
        rw [sum_block (s := b * (m + m)) (m := m) (by omega)]
        · rw [Nat.add_assoc _ m j]
          congr 1
          refine sum_congr rfl fun p hp => ?_
          rw [mem_range] at hp
          rw [hG _ (by omega) _ (by omega), Nat.add_assoc]
        · intro p hp hn
          rw [h.off _ (by omega) p hp, zero_mul]
          rw [bl1 i hi]
          intro h'
          have := of_div_block hm h'.symm
          rw [← e] at this
          omega
      · intro q hq' hn
        rw [h.off q hq' _ (by omega), mul_zero]
        rw [bl2 j hj]
        intro h'
        have := of_div_block hm h'
        rw [← e'] at this
        omega
    · intro i hi j hj
      have hq : ¬Quarter m (b * (m + m) + (m + i)) (b * (m + m) + j) := by
        rintro ⟨-, h2, -⟩
        rw [Nat.two_mul, md (m + i) (by omega)] at h2
        omega
      have hz : T (b * (m + m) + (m + i)) (b * (m + m) + j) = 0 :=
        h.off _ (by omega) _ (by omega) (by rw [bl2 i hi, bl1 j hj]; omega)
      simp [double, hq, hz]
    · intro i hi j hj
      have hq : ¬Quarter m (b * (m + m) + (m + i)) (b * (m + m) + (m + j)) := by
        rintro ⟨-, h2, -⟩
        rw [Nat.two_mul, md (m + i) (by omega)] at h2
        omega
      simp [double, hq, Nat.add_assoc]

end Cert.Householder
-- ==== Proof.Masks.lean ====
module

public import proofs.«01_k».proof.Proof.Body
public import proofs.«01_k».proof.Proof.Householder
public import Idealize.ShloMosaic.Lib.Pointwise

@[expose] public section

noncomputable section

namespace Cert.KernelIdeal.Val

open Idealize.ShloMosaic Idealize.SL.Sem
open Cert.Householder

/-! # The printed masks, read at a place -/

/-- The half sizes of the doubling steps. -/
abbrev halves : List ℕ := [2, 4, 8, 16, 32, 64]

/-- A row's block number, as the printed division rounding down makes it. -/
theorem fdiv_row (m : ℕ) (hm : m ∈ halves) (i j : Fin 128) :
    fdiv row (BitVec.ofNat 32 (2 * m)) (ix2 i j) = BitVec.ofNat 32 (i.val / (2 * m)) := by
  pointwise [fdiv, row]
  revert i
  revert m
  decide +kernel

/-- A column's block number. -/
theorem fdiv_col (m : ℕ) (hm : m ∈ halves) (i j : Fin 128) :
    fdiv col (BitVec.ofNat 32 (2 * m)) (ix2 i j) = BitVec.ofNat 32 (j.val / (2 * m)) := by
  have h := fdiv_row m hm j i
  pointwise [fdiv, row] at h
  pointwise [fdiv, col]
  exact h

/-- A row's place in its block, as the printed remainder makes it. -/
theorem fmod_row (m : ℕ) (hm : m ∈ 1 :: halves) (i j : Fin 128) :
    fmod row (BitVec.ofNat 32 (2 * m)) (ix2 i j) = BitVec.ofNat 32 (i.val % (2 * m)) := by
  pointwise [fmod, row, divisor]
  revert i
  revert m
  decide +kernel

/-- A column's place in its block. -/
theorem fmod_col (m : ℕ) (hm : m ∈ 1 :: halves) (i j : Fin 128) :
    fmod col (BitVec.ofNat 32 (2 * m)) (ix2 i j) = BitVec.ofNat 32 (j.val % (2 * m)) := by
  have h := fmod_row m hm j i
  pointwise [fmod, row, divisor] at h
  pointwise [fmod, col, divisor]
  exact h

/-- Small words are equal when their numbers are. -/
theorem cmp_eq : ∀ a b : Fin 128, IntOp.cmpi .eq (BitVec.ofNat 32 a.val) (BitVec.ofNat 32 b.val) =
    BitVec.ofBool (decide (a.val = b.val)) := by
  decide +kernel

/-- Small words are ordered as their numbers are. -/
theorem cmp_slt : ∀ a b : Fin 128, IntOp.cmpi .slt (BitVec.ofNat 32 a.val) (BitVec.ofNat 32 b.val) =
    BitVec.ofBool (decide (a.val < b.val)) := by
  decide +kernel

/-- Small words are ordered as their numbers are, the other way. -/
theorem cmp_sge : ∀ a b : Fin 128, IntOp.cmpi .sge (BitVec.ofNat 32 a.val) (BitVec.ofNat 32 b.val) =
    BitVec.ofBool (decide (b.val ≤ a.val)) := by
  decide +kernel

/-- The conjunction of two one-bit words. -/
theorem andi_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Every half size is below a chunk's rows. -/
theorem halves_lt (m : ℕ) (hm : m ∈ halves) : 0 < m ∧ m < 128 := by
  revert m
  decide

/-- The mask of a doubling step is its quarter. -/
theorem mask_eq (m : ℕ) (hm : m ∈ halves) (i j : Fin 128) :
    mask (BitVec.ofNat 32 (2 * m)) (BitVec.ofNat 32 m) (ix2 i j) = BitVec.ofBool (decide (Quarter m i.val j.val)) := by
  pointwise [mask]
  rw [fdiv_row m hm, fdiv_col m hm, fmod_row m (by simp [hm]), fmod_col m (by simp [hm])]
  obtain ⟨h0, h1⟩ := halves_lt m hm
  have hd (i : Fin 128) : i.val / (2 * m) < 128 := lt_of_le_of_lt (Nat.div_le_self _ _) i.isLt
  have hr (i : Fin 128) : i.val % (2 * m) < 128 := lt_of_le_of_lt (Nat.mod_le _ _) i.isLt
  rw [cmp_eq ⟨_, hd i⟩ ⟨_, hd j⟩, cmp_slt ⟨_, hr i⟩ ⟨m, h1⟩, cmp_sge ⟨_, hr j⟩ ⟨m, h1⟩, andi_bool, andi_bool]
  exact congrArg BitVec.ofBool (decide_eq_decide.mpr (by unfold Quarter; tauto))

/-- A selection by a decided word. -/
theorem select_bool {α : Type} (p : Prop) [Decidable p] (x y : α) :
    Scalar.select (BitVec.ofBool (decide p)) x y = if p then x else y := by
  by_cases hp : p <;> simp [hp, Scalar.select]

end Cert.KernelIdeal.Val
-- ==== Proof.Values.lean ====
module

public import proofs.«01_k».proof.Proof.Masks
public import Idealize.ShloMosaic.Lib.IdealHost
public import Mathlib.Tactic.NormNum

@[expose] public section

noncomputable section

namespace Cert.KernelIdeal.Val

open Idealize.ShloMosaic Idealize.SL.Sem
open Cert.Householder

/-! # The first kernel's values over the reals

`Is x A` says that an ideal array holds the real numbers `A`, indexed by plain numbers. -/

/-- The array holds these real numbers. -/
def Is {n m : ℕ} {φ : FTy} (x : FVec Ideal ⟨2, ![n, m]⟩ φ) (A : ℕ → ℕ → ℝ) : Prop :=
  ∀ (i : Fin n) (j : Fin m), x (ix2 i j) = ((A i.val j.val : ℝ) : EReal)

/-- Every element is a real number. -/
def Finite {s : Shape} {φ : FTy} (x : FVec Ideal s φ) : Prop := ∀ i, ∃ r : ℝ, x i = (r : EReal)

/-- An array that holds reals is finite. -/
theorem Is.finite {n m : ℕ} {φ : FTy} {x : FVec Ideal ⟨2, ![n, m]⟩ φ} {A : ℕ → ℕ → ℝ} (h : Is x A) : Finite x := fun i => by
  rw [eq_ix2 i]
  exact ⟨_, h _ _⟩

/-- The real numbers in an array, as an equation of the numbers. -/
theorem Is.congr {n m : ℕ} {φ : FTy} {x : FVec Ideal ⟨2, ![n, m]⟩ φ} {A B : ℕ → ℕ → ℝ} (h : Is x A)
    (e : ∀ i < n, ∀ j < m, A i j = B i j) : Is x B := fun i j => by
  rw [h i j, e _ i.isLt _ j.isLt]

/-- A sum of reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A contraction of reals. -/
theorem sum_prod {K : ℕ} (a b : Fin K → EReal) (f g : ℕ → ℝ) (ha : ∀ k, a k = ((f k.val : ℝ) : EReal))
    (hb : ∀ k, b k = ((g k.val : ℝ) : EReal)) :
    ∑ k, a k * b k = ((∑ k ∈ Finset.range K, f k * g k : ℝ) : EReal) := by
  rw [← Fin.sum_univ_eq_sum_range (fun k => f k * g k) K, ← coe_sum]
  exact Finset.sum_congr rfl fun k _ => by rw [ha, hb, EReal.coe_mul]

/-! ## Splitting loses nothing -/

/-- The low half of a finite array is zero. -/
theorem lo_eq {s : Shape} {x : FVec Ideal s .f32} (h : Finite x) : lo x = fun _ => (0 : EReal) := by
  funext i
  obtain ⟨r, hr⟩ := h i
  show x i - x i = 0
  rw [hr, ← EReal.coe_sub, sub_self, EReal.coe_zero]

/-- The three-term product of finite arrays is the plain one. -/
theorem mul_eq {a b c : Shape} (d : DotDims a b c) {x : FVec Ideal a .f32} {y : FVec Ideal b .f32}
    (hx : Finite x) (hy : Finite y) :
    mul d x y = matmul d none (hi x) (hi y) (constant c .f32 0x00000000#32) := by
  funext j
  have e1 : matmul d none (hi x) (lo y) (constant c .f32 0x00000000#32) j = (0 : EReal) := by
    refine (Ideal.matmul_apply d none (hi x) (lo y) _ j).trans ?_
    rw [lo_eq hy, Finset.sum_eq_zero fun k _ => mul_zero _, add_zero]
    exact Ideal.ofBits_zero_f32
  have e2 : matmul d none (lo x) (hi y) (constant c .f32 0x00000000#32) j = (0 : EReal) := by
    refine (Ideal.matmul_apply d none (lo x) (hi y) _ j).trans ?_
    rw [lo_eq hx, Finset.sum_eq_zero fun k _ => zero_mul _, add_zero]
    exact Ideal.ofBits_zero_f32
  show matmul d none (hi x) (hi y) _ j + matmul d none (hi x) (lo y) _ j + matmul d none (lo x) (hi y) _ j = _
  rw [e1, e2, add_zero, add_zero]

/-- The product of two real matrices, contracted over `K`. -/
def mulR (K : ℕ) (A B : ℕ → ℕ → ℝ) (i j : ℕ) : ℝ := ∑ k ∈ Finset.range K, A i k * B k j

/-- The product at 128 rows. -/
theorem is_mul128 {x y : FVec Ideal S128x128 .f32} {A B : ℕ → ℕ → ℝ} (hx : Is x A) (hy : Is y B) :
    Is (mul dot_S128x128_S128x128_S128x128_1_0_0_1_n_n x y) (mulR 128 A B) := fun i j => by
  rw [mul_eq _ hx.finite hy.finite]
  pointwise [hi]
  exact sum_prod _ _ (fun k => A i k) (fun k => B k j) (fun k => hx i k) (fun k => hy k j)

/-- The product at 256 rows. -/
theorem is_mul256 {x y : FVec Ideal S256x256 .f32} {A B : ℕ → ℕ → ℝ} (hx : Is x A) (hy : Is y B) :
    Is (mul dot_S256x256_S256x256_S256x256_1_0_0_1_n_n x y) (mulR 256 A B) := fun i j => by
  rw [mul_eq _ hx.finite hy.finite]
  pointwise [hi]
  exact sum_prod _ _ (fun k => A i k) (fun k => B k j) (fun k => hx i k) (fun k => hy k j)

/-- The product at 512 rows. -/
theorem is_mul512 {x y : FVec Ideal S512x512 .f32} {A B : ℕ → ℕ → ℝ} (hx : Is x A) (hy : Is y B) :
    Is (mul dot_S512x512_S512x512_S512x512_1_0_0_1_n_n x y) (mulR 512 A B) := fun i j => by
  rw [mul_eq _ hx.finite hy.finite]
  pointwise [hi]
  exact sum_prod _ _ (fun k => A i k) (fun k => B k j) (fun k => hx i k) (fun k => hy k j)

/-- The product with the second factor transposed: rows against rows. -/
theorem is_mulT {x y : FVec Ideal S512x512 .f32} {A B : ℕ → ℕ → ℝ} (hx : Is x A) (hy : Is y B) :
    Is (mul dot_S512x512_S512x512_S512x512_1_1_0_0_n_n x y) (mulR 512 A fun k j => B j k) := fun i j => by
  rw [mul_eq _ hx.finite hy.finite]
  pointwise [hi]
  exact sum_prod _ _ (fun k => A i k) (fun k => B j k) (fun k => hx i k) (fun k => hy j k)

/-- The product with the first factor transposed: columns against columns. -/
theorem is_mulC {x y : FVec Ideal S512x512 .f32} {A B : ℕ → ℕ → ℝ} (hx : Is x A) (hy : Is y B) :
    Is (mul dot_S512x512_S512x512_S512x512_0_0_1_1_n_n x y) (mulR 512 (fun i k => A k i) B) := fun i j => by
  rw [mul_eq _ hx.finite hy.finite]
  pointwise [hi]
  exact sum_prod _ _ (fun k => A k i) (fun k => B k j) (fun k => hx k i) (fun k => hy k j)

/-! ## A chunk -/

/-- The printed two. -/
theorem ofBits_two : Ideal.ofBits .f32 0x40000000#32 = ((2 : ℝ) : EReal) := by
  simp [Ideal.ofBits, Ideal.ieee, -EReal.coe_mul]; norm_num

/-- A choice between a real and zero. -/
theorem coe_ite (p : Prop) [Decidable p] (r : ℝ) : ((if p then r else 0 : ℝ) : EReal) = if p then (r : EReal) else 0 := by
  split_ifs
  · rfl
  · exact EReal.coe_zero

/-- The printed minus four. -/
theorem ofBits_neg_four : Ideal.ofBits .f32 0xC0800000#32 = ((-4 : ℝ) : EReal) := by
  simp [Ideal.ofBits, Ideal.ieee, -EReal.coe_mul, -EReal.coe_neg]; norm_num

/-- A row's number and a column's, compared for the diagonal next to the main one. -/
theorem next_eq : ∀ i j : Fin 128, IntOp.cmpi .eq (BitVec.ofNat 32 j.val) (IntOp.addi (BitVec.ofNat 32 i.val) 1#32) =
    BitVec.ofBool (decide (j.val = i.val + 1)) := by
  decide +kernel

/-- The chunk's starting triangle. -/
theorem is_init {g : FVec Ideal S128x128 .f32} {G : ℕ → ℕ → ℝ} (hg : Is g G) : Is (init g) (start G) := fun i j => by
  have hr := fmod_row 1 (by simp) i j
  have hlt : i.val % (2 * 1) < 128 := by omega
  pointwise [init]
  unfold row at hr ⊢
  unfold col
  pointwise
  rw [show (2#32 : BitVec 32) = BitVec.ofNat 32 (2 * 1) from rfl, hr, cmp_eq i j, cmp_eq ⟨_, hlt⟩ ⟨0, by omega⟩, next_eq, andi_bool,
    select_bool, select_bool, hg i j, ofBits_two, ofBits_neg_four, ← EReal.coe_mul]
  unfold start
  rw [EReal.coe_add, coe_ite, coe_ite]

/-- A doubling step. -/
theorem is_step {m : ℕ} (hm : m ∈ halves) {g t : FVec Ideal S128x128 .f32} {G T : ℕ → ℕ → ℝ} (hg : Is g G) (ht : Is t T) :
    Is (step (BitVec.ofNat 32 (2 * m)) (BitVec.ofNat 32 m) g t) (double 128 m G T) := fun i j => by
  have hp := is_mul128 (is_mul128 ht hg) ht i j
  pointwise [step]
  rw [mask_eq m hm, select_bool, ht i j, hp]
  unfold double
  by_cases h : Quarter m i.val j.val
  · rw [if_pos h, if_pos h, ← EReal.coe_sub]; rfl
  · rw [if_neg h, if_neg h, ← EReal.coe_zero, ← EReal.coe_sub]

/-- The chunk's triangle over the reals. -/
def chunkR (G : ℕ → ℕ → ℝ) : ℕ → ℕ → ℝ :=
  double 128 64 G (double 128 32 G (double 128 16 G (double 128 8 G (double 128 4 G (double 128 2 G (start G))))))

/-- The chunk's triangle. -/
theorem is_chunk {g : FVec Ideal S128x128 .f32} {G : ℕ → ℕ → ℝ} (hg : Is g G) : Is (chunk g) (chunkR G) :=
  is_step (m := 64) (by simp) hg (is_step (m := 32) (by simp) hg (is_step (m := 16) (by simp) hg
    (is_step (m := 8) (by simp) hg (is_step (m := 4) (by simp) hg (is_step (m := 2) (by simp) hg (is_init hg))))))

/-- The chunk's triangle is a compact form of the chunk's product. -/
theorem R_chunkR {κ : Type} [Fintype κ] [DecidableEq κ] (w : ℕ → κ → ℝ) (G : ℕ → ℕ → ℝ)
    (hG : ∀ i < 128, ∀ j < 128, G i j = w i ⬝ᵥ w j) : R w 128 (chunkR G) := by
  have h := double_blocks (by omega) hG (double_blocks (by omega) hG (double_blocks (by omega) hG
    (double_blocks (by omega) hG (double_blocks (by omega) hG (double_blocks (by omega) hG (start_blocks w 128 G hG))))))
  have h0 := h.rep 0 (by omega)
  simp only [Nat.zero_mul, Nat.zero_add] at h0
  exact h0

/-! ## Merging -/

/-- Zero less a real. -/
theorem zero_sub_coe (r : ℝ) : (0 : EReal) - (r : EReal) = ((-r : ℝ) : EReal) := by
  rw [← EReal.coe_zero, ← EReal.coe_sub, zero_sub]

/-- Two triangles of `n` rows merged, over the reals. -/
def mergeR (n : ℕ) (G T₁ T₂ : ℕ → ℕ → ℝ) (i j : ℕ) : ℝ :=
  if i < n then if j < n then T₁ i j else -mulR n (mulR n T₁ G) T₂ i (j - n)
  else if j < n then 0 else T₂ (i - n) (j - n)

/-- The merge at 128 rows. -/
theorem is_merge128 {g t₁ t₂ : FVec Ideal S128x128 .f32} {G T₁ T₂ : ℕ → ℕ → ℝ} (hg : Is g G) (h₁ : Is t₁ T₁) (h₂ : Is t₂ T₂) :
    Is (merge128 g t₁ t₂) (mergeR 128 G T₁ T₂) := fun i j => by
  have hp := is_mul128 (is_mul128 h₁ hg) h₂
  pointwise [merge128]
  unfold mergeR
  by_cases hi : i.val < 128 <;> by_cases hj : j.val < 128
  · rw [dif_pos hi, dif_pos hj, if_pos hi, if_pos hj, h₁]
  · rw [dif_pos hi, dif_neg hj, if_pos hi, if_neg hj, hp]
    exact zero_sub_coe _
  · rw [dif_neg hi, dif_pos hj, if_neg hi, if_pos hj, EReal.coe_zero]
  · rw [dif_neg hi, dif_neg hj, if_neg hi, if_neg hj, h₂]

/-- The merge at 256 rows. -/
theorem is_merge256 {g t₁ t₂ : FVec Ideal S256x256 .f32} {G T₁ T₂ : ℕ → ℕ → ℝ} (hg : Is g G) (h₁ : Is t₁ T₁) (h₂ : Is t₂ T₂) :
    Is (merge256 g t₁ t₂) (mergeR 256 G T₁ T₂) := fun i j => by
  have hp := is_mul256 (is_mul256 h₁ hg) h₂
  pointwise [merge256]
  unfold mergeR
  by_cases hi : i.val < 256 <;> by_cases hj : j.val < 256
  · rw [dif_pos hi, dif_pos hj, if_pos hi, if_pos hj, h₁]
  · rw [dif_pos hi, dif_neg hj, if_pos hi, if_neg hj, hp]
    exact zero_sub_coe _
  · rw [dif_neg hi, dif_pos hj, if_neg hi, if_pos hj, EReal.coe_zero]
  · rw [dif_neg hi, dif_neg hj, if_neg hi, if_neg hj, h₂]

/-- The merged triangle is a compact form of the product of both stretches. -/
theorem R_mergeR {κ : Type} [Fintype κ] [DecidableEq κ] {w : ℕ → κ → ℝ} {n : ℕ} {G T₁ T₂ : ℕ → ℕ → ℝ}
    (hG : ∀ i < n, ∀ j < n, G i j = w i ⬝ᵥ w (n + j)) (h₁ : R w n T₁) (h₂ : R (fun i => w (n + i)) n T₂) :
    R w (n + n) (mergeR n G T₁ T₂) := by
  refine merge h₁ h₂ ?_ ?_ ?_ ?_
  · intro i hi j hj
    simp [mergeR, hi, hj]
  · intro i hi j hj
    simp only [mergeR, hi, if_true, show ¬n + j < n by omega, if_false, Nat.add_sub_cancel_left, mulR]
    congr 1
    refine Finset.sum_congr rfl fun q hq => ?_
    congr 1
    exact Finset.sum_congr rfl fun p hp => by rw [hG p (Finset.mem_range.mp hp) q (Finset.mem_range.mp hq)]
  · intro i hi j hj
    simp [mergeR, hj]
  · intro i hi j hj
    simp [mergeR]

/-! ## The whole triangle -/

/-- The Gram numbers of a family of rows. -/
def gramR (W : ℕ → ℕ → ℝ) : ℕ → ℕ → ℝ := mulR 512 W fun k j => W j k

/-- A matrix read from a corner on. -/
def from_ (a b : ℕ) (G : ℕ → ℕ → ℝ) (i j : ℕ) : ℝ := G (a + i) (b + j)

/-- The whole triangle over the reals. -/
def triangleR (G : ℕ → ℕ → ℝ) : ℕ → ℕ → ℝ :=
  mergeR 256 (from_ 0 256 G)
    (mergeR 128 (from_ 0 128 G) (chunkR (from_ 0 0 G)) (chunkR (from_ 128 128 G)))
    (mergeR 128 (from_ 256 384 G) (chunkR (from_ 256 256 G)) (chunkR (from_ 384 384 G)))

/-- The first pair of chunks. -/
theorem is_left {g : FVec Ideal S512x512 .f32} {G : ℕ → ℕ → ℝ} (hg : Is g G) :
    Is (left g) (mergeR 128 (from_ 0 128 G) (chunkR (from_ 0 0 G)) (chunkR (from_ 128 128 G))) := by
  refine is_merge128 (fun i j => ?_) (is_chunk fun i j => ?_) (is_chunk fun i j => ?_)
  all_goals
    pointwise
    rw [hg]
    simp [from_]

/-- The second pair of chunks. -/
theorem is_right {g : FVec Ideal S512x512 .f32} {G : ℕ → ℕ → ℝ} (hg : Is g G) :
    Is (right g) (mergeR 128 (from_ 256 384 G) (chunkR (from_ 256 256 G)) (chunkR (from_ 384 384 G))) := by
  refine is_merge128 (fun i j => ?_) (is_chunk fun i j => ?_) (is_chunk fun i j => ?_)
  all_goals
    pointwise
    rw [hg]
    simp [from_]

/-- The whole triangle. -/
theorem is_triangle {g : FVec Ideal S512x512 .f32} {G : ℕ → ℕ → ℝ} (hg : Is g G) : Is (triangle g) (triangleR G) := by
  refine is_merge256 (fun i j => ?_) (is_left hg) (is_right hg)
  pointwise
  rw [hg]
  simp [from_]

/-- The rows as vectors. -/
def vec (W : ℕ → ℕ → ℝ) (i : ℕ) : Fin 512 → ℝ := fun k => W i k.val

/-- The Gram numbers are the rows' inner products. -/
theorem gramR_eq (W : ℕ → ℕ → ℝ) (i j : ℕ) : gramR W i j = vec W i ⬝ᵥ vec W j :=
  (Fin.sum_univ_eq_sum_range (fun k => W i k * W j k) 512).symm

/-- The whole triangle is a compact form of the product of all reflections. -/
theorem R_triangleR (W : ℕ → ℕ → ℝ) : R (vec W) 512 (triangleR (gramR W)) := by
  have g (a b i j : ℕ) : from_ a b (gramR W) i j = vec W (a + i) ⬝ᵥ vec W (b + j) := gramR_eq W _ _
  have pair (s : ℕ) : R (fun i => vec W (s + i)) (128 + 128)
      (mergeR 128 (from_ s (s + 128) (gramR W)) (chunkR (from_ s s (gramR W))) (chunkR (from_ (s + 128) (s + 128) (gramR W)))) := by
    refine R_mergeR (fun i _ j _ => ?_) (R_chunkR _ _ fun i _ j _ => g ..) (R_chunkR _ _ fun i _ j _ => ?_)
    · rw [g, Nat.add_assoc]
    · rw [g, Nat.add_assoc, Nat.add_assoc]
  refine R_mergeR (n := 256) (fun i _ j _ => ?_) ?_ (pair 256)
  · rw [g, Nat.zero_add]
  · simpa only [Nat.zero_add] using pair 0

/-- The last step: the identity less the triangle between the rows. -/
theorem is_close {t w : FVec Ideal S512x512 .f32} {T W : ℕ → ℕ → ℝ} (ht : Is t T) (hw : Is w W) :
    Is (close t w) fun a b => (if a = b then 1 else 0) - mulR 512 (fun i k => mulR 512 T W k i) W a b := fun i j => by
  have hp := is_mulC (is_mul512 ht hw) hw i j
  have he : IntOp.cmpi .eq (BitVec.ofNat 32 i.val) (BitVec.ofNat 32 j.val) = BitVec.ofBool (decide (i.val = j.val)) := by
    have : (BitVec.ofNat 32 i.val == BitVec.ofNat 32 j.val) = decide (i.val = j.val) := by
      rw [Bool.eq_iff_iff, beq_iff_eq, decide_eq_true_iff]
      refine ⟨fun h => ?_, fun h => by rw [h]⟩
      have := congrArg BitVec.toNat h
      simp only [BitVec.toNat_ofNat] at this
      omega
    show BitVec.ofBool _ = _
    rw [this]
  pointwise [close]
  rw [he, select_bool, hp, EReal.coe_sub]
  congr 1
  by_cases h : i.val = j.val <;> simp [h]

/-- The identity less the triangle between the rows is the transposed product of the reflections. -/
theorem close_real (W : ℕ → ℕ → ℝ) (a b : Fin 512) :
    (if a.val = b.val then 1 else 0) - mulR 512 (fun i k => mulR 512 (triangleR (gramR W)) W k i) W a.val b.val =
      Q (vec W) 512 b a := by
  have hR : Q (vec W) 512 = 1 - S (vec W) 512 (triangleR (gramR W)) := R_triangleR W
  rw [hR, Matrix.sub_apply, Matrix.one_apply]
  refine congrArg₂ (· - ·) (by simp only [Fin.ext_iff, eq_comm]) ?_
  generalize triangleR (gramR W) = T
  unfold S mulR
  rw [Matrix.sum_apply]
  refine Finset.sum_congr rfl fun i _ => ?_
  rw [Matrix.sum_apply, Finset.sum_mul]
  refine Finset.sum_congr rfl fun j _ => ?_
  rw [Matrix.smul_apply, Matrix.vecMulVec_apply, smul_eq_mul]
  show _ = T i j * (W i b.val * W j a.val)
  ring

/-- The matrix the first kernel builds from real rows. -/
theorem close_triangle {w : FVec Ideal S512x512 .f32} {W : ℕ → ℕ → ℝ} (hw : Is w W) (a b : Fin 512) :
    close (triangle (gram w)) w (ix2 a b) = ((Q (vec W) 512 b a : ℝ) : EReal) :=
  (is_close (is_triangle (is_mulT hw hw)) hw a b).trans (congrArg _ (close_real W a b))

end Cert.KernelIdeal.Val
-- ==== Proof.Reference.lean ====
module

public import proofs.«01_k».proof.Proof.Values
public import proofs.«01_k».proof.Proof.Gen.ReferenceIdeal.StepRun

@[expose] public section

noncomputable section

namespace Cert.Reflect

open Idealize.ShloMosaic Idealize.SL.Sem
open Cert.Householder
open Cert.KernelIdeal.Val (Is vec coe_sum sum_prod ofBits_two rows build close_triangle)
open Cert.ReferenceIdeal Cert.ReferenceIdeal.Step Cert.ReferenceIdeal.Gen

/-! # The normalised rows are real, and the reference's matrix is the product of the reflections -/

/-- The argument that holds the rows. -/
abbrev Rows := Vec Ideal S1x512x512 .f32

/-! ## Every normalised entry is a real number, whatever the argument holds -/

/-- A square is not negative. -/
theorem sq_nonneg' (x : EReal) : 0 ≤ x * x := by
  induction x with
  | bot => simp
  | top => simp
  | coe r => exact_mod_cast mul_self_nonneg r

/-- The number added to a norm is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The square root of a number that is not negative is not negative. -/
theorem sqrt_nonneg' {s : EReal} (h : 0 ≤ s) : s = ⊤ ∨ ∃ r : ℝ, 0 ≤ r ∧ Ideal.sqrt s = (r : EReal) := by
  induction s with
  | bot => exact absurd h (by simp)
  | top => exact .inl rfl
  | coe r =>
    have hr : 0 ≤ r := by exact_mod_cast h
    exact .inr ⟨_, Real.sqrt_nonneg r, by rw [Ideal.sqrt_coe, if_neg (not_lt.mpr hr)]⟩

/-- A number over a norm that covers it is real. -/
theorem div_real {x s e : EReal} (he : ∃ r : ℝ, 0 < r ∧ e = (r : EReal)) (h : x * x ≤ s) :
    ∃ r : ℝ, Ideal.div x (Ideal.sqrt s + e) = (r : EReal) := by
  obtain ⟨e', he0, rfl⟩ := he
  rcases sqrt_nonneg' ((sq_nonneg' x).trans h) with rfl | ⟨d, hd, hs⟩
  · refine ⟨0, ?_⟩
    rw [Ideal.sqrt_top, EReal.top_add_coe, Ideal.div, if_neg EReal.top_ne_zero, EReal.inv_top, mul_zero, EReal.coe_zero]
  · have hne : d + e' ≠ 0 := by linarith
    have hfin : s ≠ ⊤ := fun ht => by
      rw [ht, Ideal.sqrt_top] at hs
      exact EReal.coe_ne_top _ hs.symm
    rw [hs, ← EReal.coe_add, Ideal.div_coe hne]
    induction x with
    | bot => exact absurd (top_le_iff.mp (by simpa using h)) hfin
    | top => exact absurd (top_le_iff.mp (by simpa using h)) hfin
    | coe r => exact ⟨_, (EReal.coe_mul _ _).symm⟩

/-- An entry of the normalised rows, from the argument. -/
theorem rows_apply (v : Rows) (i k : Fin 512) : rows (F := Ideal) v (ix2 i k) =
    Ideal.div (v (ix3 0 i k)) (Ideal.sqrt (∑ x, v (ix3 0 i x) * v (ix3 0 i x)) + Ideal.ofBits .f32 0x358637BD#32) := by
  pointwise [rows]

/-- Every normalised entry is real. -/
theorem rows_real (v : Rows) (i k : Fin 512) : ∃ r : ℝ, rows (F := Ideal) v (ix2 i k) = (r : EReal) := by
  rw [rows_apply]
  refine div_real eps_pos ?_
  exact Finset.single_le_sum (f := fun x => v (ix3 0 i x) * v (ix3 0 i x)) (fun x _ => sq_nonneg' _) (Finset.mem_univ k)

/-- The real numbers in the normalised rows. -/
def unit (v : Rows) (i k : ℕ) : ℝ :=
  if h : i < 512 ∧ k < 512 then (rows (F := Ideal) v (ix2 ⟨i, h.1⟩ ⟨k, h.2⟩)).toReal else 0

/-- The normalised rows hold them. -/
theorem is_rows (v : Rows) : Is (rows (F := Ideal) v) (unit v) := fun i k => by
  obtain ⟨r, hr⟩ := rows_real v i k
  unfold unit
  rw [dif_pos ⟨i.isLt, k.isLt⟩, hr, EReal.toReal_coe]

/-- The matrix the first kernel builds is the transposed product of the reflections. -/
theorem build_apply (v : Rows) (a b : Fin 512) :
    build (F := Ideal) v (ix2 a b) = ((Q (vec (unit v)) 512 b a : ℝ) : EReal) :=
  close_triangle (is_rows v) a b

/-! ## The reference -/

/-- The reference normalises the rows alike, entry by entry. -/
theorem ref_rows_apply (v : Rows) (i k : Fin 512) : A_main_v5 (F := Ideal) v (ix2 i k) = rows (F := Ideal) v (ix2 i k) := by
  rw [rows_apply]
  pointwise [A_main_v5, A_main_v4, A_main_v3, A_main_v1, A_main_v0, K_main_v2, K_main_cst, A_main_call0_v2, A_main_call0_v1,
    A_main_call0_v0, K_main_call0_cst]

/-- The reference normalises the rows alike. -/
theorem ref_rows (v : Rows) : A_main_v5 (F := Ideal) v = rows (F := Ideal) v :=
  funext fun i => (congrArg (A_main_v5 (F := Ideal) v) (eq_ix2 i)).trans
    ((ref_rows_apply v (i 0) (i 1)).trans (congrArg (rows (F := Ideal) v) (eq_ix2 i).symm))

/-- The reference's states: what the loop starts from, then trip by trip. -/
def states (v : Rows) : ℕ → State Ideal
  | 0 => Step.init v
  | n + 1 => Step.step n (states v n)

/-- No trip changes the rows. -/
theorem states_rows (v : Rows) : ∀ n, (states v n).main_v12_0 = rows (F := Ideal) v
  | 0 => ref_rows v
  | n + 1 => states_rows v n

/-- The row a trip starts its slice at. -/
def trip (j : ℕ) : ℕ := (min (max (BitVec.ofNat 32 j).toInt 0) ((512 - 1 : ℕ) : Int)).toNat

/-- It is the trip's number. -/
theorem trip_eq (j : ℕ) (h : j < 512) : trip j = j := by
  have e : (BitVec.ofNat 32 j).toInt = (j : Int) := by
    rw [BitVec.toInt_eq_toNat_of_lt (by rw [BitVec.toNat_ofNat]; omega), BitVec.toNat_ofNat]
    omega
  unfold trip
  rw [e]
  omega

/-- A trip reads its row. -/
theorem slice_apply (j : ℕ) (h : j < 512) (s : State Ideal) (k : Fin 512) :
    b1 j s (ix2 0 k) = s.main_v12_0 (ix2 ⟨j, h⟩ k) := by
  have e := trip_eq j h
  unfold b1 Host.dynamicSlice
  refine congrArg s.main_v12_0 (funext fun a => Fin.ext ?_)
  match a with
  | ⟨0, _⟩ => show trip j + 0 = j; rw [e, Nat.add_zero]
  | ⟨1, _⟩ => exact Nat.zero_add k.val

/-- The identity the loop starts from. -/
theorem start_apply (a b : Fin 512) : K_main_v11 (F := Ideal) (ix2 a b) = (((1 : Matrix (Fin 512) (Fin 512) ℝ) a b : ℝ) : EReal) := by
  pointwise [K_main_v11, K_main_v10, K_main_v9, K_main_v8, K_main_v7, K_main_v6, K_main_c]
  have he : IntOp.cmpi .eq (IntOp.addi (BitVec.ofNat 32 a.val) 0#32) (BitVec.ofNat 32 b.val) = BitVec.ofBool (decide (a = b)) := by
    have : (BitVec.ofNat 32 a.val + 0#32 == BitVec.ofNat 32 b.val) = decide (a = b) := by
      rw [Bool.eq_iff_iff, beq_iff_eq, decide_eq_true_iff, BitVec.add_zero]
      refine ⟨fun h => Fin.ext ?_, fun h => by rw [h]⟩
      have := congrArg BitVec.toNat h
      simp only [BitVec.toNat_ofNat] at this
      omega
    show BitVec.ofBool (BitVec.ofNat 32 a.val + 0#32 == BitVec.ofNat 32 b.val) = _
    rw [this]
  rw [he, Matrix.one_apply]
  by_cases h : a = b
  · rw [decide_eq_true h, if_pos h]; exact congrArg ((↑) : ℝ → EReal) (Nat.cast_one (R := ℝ))
  · rw [decide_eq_false h, if_neg h]; exact congrArg ((↑) : ℝ → EReal) (Nat.cast_zero (R := ℝ))

/-- After `n` trips the carried matrix is the product of the first `n` reflections. -/
theorem states_matrix (v : Rows) : ∀ n ≤ 512, ∀ a b : Fin 512,
    (states v n).main_v12_2 (ix2 a b) = ((Q (vec (unit v)) n a b : ℝ) : EReal)
  | 0, _, a, b => start_apply a b
  | n + 1, hn, a, b => by
    have ih := states_matrix v n (by omega)
    have hw (k : Fin 512) : b1 n (states v n) (ix2 0 k) = ((vec (unit v) n k : ℝ) : EReal) := by
      rw [slice_apply n (by omega), states_rows, is_rows]; rfl
    show b12 n (states v n) (ix2 a b) = _
    pointwise [b12, b11, b10, b9, b8, b7, b6, b5, b4, b3, b2]
    simp only [ih, hw, ofBits_two, ← EReal.coe_mul, coe_sum, ← EReal.coe_sub]
    congr 1
    show _ = (Q (vec (unit v)) n * H (vec (unit v) n)) a b
    unfold H
    rw [Matrix.mul_sub, Matrix.mul_one, Matrix.mul_smul, Matrix.sub_apply, Matrix.smul_apply, Matrix.mul_vecMulVec,
      Matrix.vecMulVec_apply, smul_eq_mul]
    rfl

/-- The result of a pair of arguments: `x` times the transposed product of the reflections. -/
theorem ref_apply (v : Rows) (x : Vec Ideal S131072x512 .f32) (i : Fin 131072) (j : Fin 512) :
    R_main_v14 (states v 512) x (ix2 i j) = ∑ k, x (ix2 i k) * build (F := Ideal) v (ix2 k j) := by
  pointwise [R_main_v14]
  exact Finset.sum_congr rfl fun k _ => by rw [states_matrix v 512 le_rfl, build_apply]

end Cert.Reflect
-- ==== Proof.Run.lean ====
module

public import proofs.«01_k».proof.Proof.Values
public import Idealize.ShloMosaic.Lib.Pipeline.ValueKit
public import Idealize.ShloMosaic.Lib.Pipeline.Value

@[expose] public section

set_option maxRecDepth 65536

noncomputable section

namespace Cert.KernelIdeal.Val

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! # The kernel's run, with its result named -/

local notation "𝕄" => MT nD τ sig Unit (Elt Ideal) ℕ (UR sig nD τ) ℕ

section Read

variable (m : (ℓ : Loc nD τ sig) → Buf (Elt Ideal) ℓ) (ρ : Dev nD → PrngReg)

/-- The rows, as the first kernel's argument. -/
def argV (c : Dev nD) : Vec Ideal S1x512x512 .f32 := m ((c : Thread nD τ).loc main_arg1)

/-- The array that is multiplied. -/
def argX (c : Dev nD) : FVec Ideal S131072x512 .f32 := m ((c : Thread nD τ).loc main_arg0)

/-- The matrix between the two kernels: what the first one builds from the rows. -/
def matrix (c : Dev nD) : FVec Ideal S512x512 .f32 := build (F := Ideal) (argV m c)

/-- The result: the first argument times that matrix. -/
def result (c : Dev nD) : FVec Ideal S131072x512 .f32 := fun i =>
  ∑ k : Fin 512, argX m c (ix2 (i 0) k) * matrix m c (ix2 k (i 1))

/-- The first kernel's windows are at the origin. -/
theorem origin0 : ∀ t : Fin cfg0.N, (∀ a, win0_0.index t a = 0) ∧ ∀ a, win0_1.index t a = 0 := by decide +kernel

/-- The second kernel's row windows follow the point and its matrix window stays at the origin. -/
theorem origin1 : ∀ t : Fin cfg1.N, (win1_0.index t 0 = t.val ∧ win1_0.index t 1 = 0) ∧ (∀ a, win1_1.index t a = 0) ∧
    win1_2.index t 0 = t.val ∧ win1_2.index t 1 = 0 := by decide +kernel

/-- The first kernel reads the rows whole. -/
theorem first_block (c : Dev nD) (t : Fin cfg0.N) : iblk0 (V0 m ρ) c 0 t = argV m c := by
  funext y
  show argV m c ((win0_0.blk t).view.emb y) = argV m c y
  congr 1
  refine funext fun a => Fin.ext ?_
  blk_simp [(origin0 t).1 a]

/-- The first kernel leaves the matrix in its result array. -/
theorem first_array (c : Dev nD) : W1 m ρ c (Proc.devRef .tc main_v0) = matrix m c := by
  refine (W1_arr m ρ c 1).trans ?_
  refine (dat0 (V0 m ρ) c).arrAt_eq_of_covers 1 _ (by decide +kernel) fun t hf y => ?_
  rw [after0_1, out0_eq, first_block]
  frame_out
  show matrix m c y = matrix m c ((win0_1.blk t).view.emb y)
  congr 1
  refine funext fun a => Fin.ext ?_
  blk_simp [(origin0 t).2 a]

/-- The second kernel reads the matrix whole, as the first one left it. -/
theorem matrix_block (c : Dev nD) (t : Fin cfg1.N) : iblk1 (V1 m ρ) c 1 t = matrix m c := by
  funext y
  show W1 m ρ c (Proc.devRef .tc main_v0) ((win1_1.blk t).view.emb y) = matrix m c y
  rw [first_array]
  congr 1
  refine funext fun a => Fin.ext ?_
  blk_simp [(origin1 t).2.1 a]

/-- The second kernel reads the rows of its point. -/
theorem rows_block (c : Dev nD) (t : Fin cfg1.N) (i : Fin 4096) (k : Fin 512) (h : t.val * 4096 + i.val < 131072) :
    iblk1 (V1 m ρ) c 0 t (ix2 i k) = argX m c (ix2 ⟨t.val * 4096 + i.val, h⟩ k) := by
  show W1 m ρ c (Proc.devRef .tc main_arg0) ((win1_0.blk t).view.emb (ix2 i k)) = _
  rw [W1_args m ρ c main_arg0 (by decide)]
  show argX m c _ = _
  congr 1
  refine funext fun a => Fin.ext ?_
  match a with
  | ⟨0, _⟩ =>
    blk_simp [(origin1 t).1.1]
  | ⟨1, _⟩ =>
    blk_simp [(origin1 t).1.2]

/-- The second kernel's block product at a place. -/
theorem pay_apply (x : FVec Ideal S4096x512 .f32) (b : FVec Ideal S512x512 .f32) (i : Fin 4096) (j : Fin 512) :
    k1_pay1 (F := Ideal) x b (ix2 i j) = ∑ k : Fin 512, x (ix2 i k) * b (ix2 k j) := by
  pointwise [k1_pay1]

/-- The second kernel leaves the result in its result array. -/
theorem second_array (c : Dev nD) : W2 m ρ c (Proc.devRef .tc main_v1) = result m c := by
  refine (W2_arr m ρ c 2).trans ?_
  refine (dat1 (V1 m ρ) c).arrAt_eq_of_covers 2 _ (by decide +kernel) fun t hf y => ?_
  rw [after1_2]
  frame_out
  rw [matrix_block]
  have ht : t.val < 32 := t.isLt
  have hy : (y 0).val < 4096 := (y 0).isLt
  have hlt : t.val * 4096 + (y 0).val < 131072 := by omega
  have e : (win1_2.blk t).view.emb y = ix2 ⟨t.val * 4096 + (y 0).val, hlt⟩ (y 1) := by
    refine funext fun a => Fin.ext ?_
    match a with
    | ⟨0, _⟩ =>
      blk_simp [(origin1 t).2.2.1]
      rfl
    | ⟨1, _⟩ =>
      blk_simp [(origin1 t).2.2.2]
      rfl
  show k1_pay1 _ _ y = result m c ((win1_2.blk t).view.emb y)
  rw [e]
  refine (congrArg (k1_pay1 (F := Ideal) _ _) (eq_ix2 y)).trans ((pay_apply _ _ (y 0) (y 1)).trans ?_)
  exact Finset.sum_congr rfl fun k _ => congrArg (· * _) (rows_block m ρ c t (y 0) k hlt)

-- the launch's statement over the pinned configurations is found by unfolding plain definitions in a metavariable's type
set_option backward.isDefEq.respectTransparency.types false in
/-- The kernel's run: every execution ends with the result array at `result` and the arguments as launched. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (second_array m ρ c),
       (h c _ (mem_uc main_arg0 (by decide))).trans (W2_main_arg0 m ρ c),
       (h c _ (mem_uc main_arg1 (by decide))).trans (W2_main_arg1 m ρ c)⟩)

end Read

end Cert.KernelIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Reference
public import proofs.«01_k».proof.Proof.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged and every counter at zero: it declares no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results: the first argument times the transposed product of the
    reflections. -/
theorem same_result :
    @Cert.algebraic_KernelIdeal_ReferenceIdeal Cert.KernelIdeal.Gen.facts Cert.ReferenceIdeal.Gen.facts := by
  intro m ρ m' ρ' _ hagree
  refine ⟨fun c => Cert.KernelIdeal.Val.result m c, Cert.KernelIdeal.Val.run m ρ, ?_⟩
  have hrun := Cert.ReferenceIdeal.StepRun.run_iter (F := Ideal) m' ρ'
    (fun c => Cert.Reflect.states (m' ((c.tc : Thread Cert.ReferenceIdeal.nD Cert.ReferenceIdeal.τ).loc Cert.ReferenceIdeal.main_arg1)))
    (fun _ => rfl) (fun _ _ => rfl)
  refine (θ_run _ _ _).mono (fun _ h c => ⟨(h c).1.trans ?_, (h c).2⟩) hrun
  rw [(hagree c).1, (hagree c).2]
  funext i
  refine (congrArg _ (eq_ix2 i)).trans (Cert.Reflect.ref_apply (Cert.KernelIdeal.Val.argV m c) (Cert.KernelIdeal.Val.argX m c) (i 0) (i 1))

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_result⟩

end Cert.Proof

end
